-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x16384 : Shape := ⟨2, ![2048, 16384]⟩
abbrev S32x16384 : Shape := ⟨2, ![32, 16384]⟩
abbrev S2x2048x16384 : Shape := ⟨3, ![2, 2048, 16384]⟩
abbrev S2048x512 : Shape := ⟨2, ![2048, 512]⟩
abbrev S32x512 : Shape := ⟨2, ![32, 512]⟩
abbrev S2x2048x512 : Shape := ⟨3, ![2, 2048, 512]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S1x128 : Shape := ⟨2, ![1, 128]⟩
abbrev S1x128x128 : Shape := ⟨3, ![1, 128, 128]⟩

abbrev nBuf : Space → Nat
  | .hbm => 4
  | .vmem => 10
  | .smem => 0
  | _ => 0

abbrev bufTy : (tb : Table) → Fin (tcTables nBuf tb) → BufTy
  | .hbm, ⟨0, _⟩ => ⟨S2048x16384, .i8⟩
  | .hbm, ⟨1, _⟩ => ⟨S32x16384, .bf16⟩
  | .hbm, ⟨2, _⟩ => ⟨S32x16384, .bf16⟩
  | .hbm, ⟨3, _⟩ => ⟨S2x2048x16384, .bf16⟩
  | .local _ .vmem, ⟨0, _⟩ => ⟨S2048x512, .i8⟩
  | .local _ .vmem, ⟨1, _⟩ => ⟨S2048x512, .i8⟩
  | .local _ .vmem, ⟨2, _⟩ => ⟨S32x512, .bf16⟩
  | .local _ .vmem, ⟨3, _⟩ => ⟨S32x512, .bf16⟩
  | .local _ .vmem, ⟨4, _⟩ => ⟨S32x512, .bf16⟩
  | .local _ .vmem, ⟨5, _⟩ => ⟨S32x512, .bf16⟩
  | .local _ .vmem, ⟨6, _⟩ => ⟨S2x2048x512, .bf16⟩
  | .local _ .vmem, ⟨7, _⟩ => ⟨S2x2048x512, .bf16⟩
  | .local _ .vmem, ⟨8, _⟩ => ⟨S32x512, .f32⟩
  | .local _ .vmem, ⟨9, _⟩ => ⟨S32x512, .f32⟩
  | _, _ => ⟨S2048x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  v13
def k0_off1 (k0_t1 : Fin k0_t1_loop.trips) : Fin 2 → Nat :=
  let c0_10 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v15 : Index := Scalar.indexCast v14
  ![0, v15.toNat]
def k0_off2 (k0_t1 : Fin k0_t1_loop.trips) : Fin 2 → Nat :=
  let c0_12 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v35 : Index := Scalar.indexCast v14
  ![0, v35.toNat]
def k0_off3 (k0_t1 : Fin k0_t1_loop.trips) : Fin 3 → Nat :=
  let c0_14 : Index := 0#32
  let c0_15 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v44 : Index := Scalar.indexCast v14
  ![0, 0, v44.toNat]
def k0_off4 (k0_t1 : Fin k0_t1_loop.trips) : Fin 2 → Nat :=
  let c16 : Index := 16#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v48 : Index := Scalar.indexCast v14
  ![16, v48.toNat]
def k0_off5 (k0_t1 : Fin k0_t1_loop.trips) : Fin 3 → Nat :=
  let c1 : Index := 1#32
  let c0_17 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v57 : Index := Scalar.indexCast v14
  ![1, 0, v57.toNat]
def k0_off6 (k0_t1 : Fin k0_t1_loop.trips) : Fin 2 → Nat :=
  let c128 : Index := 128#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v61 : Index := Scalar.indexCast v14
  ![128, v61.toNat]
def k0_off7 (k0_t1 : Fin k0_t1_loop.trips) : Fin 2 → Nat :=
  let c1_22 : Index := 1#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v81 : Index := Scalar.indexCast v14
  ![1, v81.toNat]
def k0_off8 (k0_t1 : Fin k0_t1_loop.trips) : Fin 3 → Nat :=
  let c0_24 : Index := 0#32
  let c128_25 : Index := 128#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v90 : Index := Scalar.indexCast v14
  ![0, 128, v90.toNat]
def k0_off9 (k0_t1 : Fin k0_t1_loop.trips) : Fin 2 → Nat :=
  let c17 : Index := 17#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v94 : Index := Scalar.indexCast v14
  ![17, v94.toNat]
def k0_off10 (k0_t1 : Fin k0_t1_loop.trips) : Fin 3 → Nat :=
  let c1_27 : Index := 1#32
  let c128_28 : Index := 128#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v103 : Index := Scalar.indexCast v14
  ![1, 128, v103.toNat]
def k0_off11 (k0_t1 : Fin k0_t1_loop.trips) : Fin 2 → Nat :=
  let c256 : Index := 256#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v107 : Index := Scalar.indexCast v14
  ![256, v107.toNat]
def k0_off12 (k0_t1 : Fin k0_t1_loop.trips) : Fin 2 → Nat :=
  let c2 : Index := 2#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v127 : Index := Scalar.indexCast v14
  ![2, v127.toNat]
def k0_off13 (k0_t1 : Fin k0_t1_loop.trips) : Fin 3 → Nat :=
  let c0_34 : Index := 0#32
  let c256_35 : Index := 256#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v136 : Index := Scalar.indexCast v14
  ![0, 256, v136.toNat]
def k0_off14 (k0_t1 : Fin k0_t1_loop.trips) : Fin 2 → Nat :=
  let c18 : Index := 18#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v140 : Index := Scalar.indexCast v14
  ![18, v140.toNat]
def k0_off15 (k0_t1 : Fin k0_t1_loop.trips) : Fin 3 → Nat :=
  let c1_37 : Index := 1#32
  let c256_38 : Index := 256#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v149 : Index := Scalar.indexCast v14
  ![1, 256, v149.toNat]
def k0_off16 (k0_t1 : Fin k0_t1_loop.trips) : Fin 2 → Nat :=
  let c384 : Index := 384#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v153 : Index := Scalar.indexCast v14
  ![384, v153.toNat]
def k0_off17 (k0_t1 : Fin k0_t1_loop.trips) : Fin 2 → Nat :=
  let c3 : Index := 3#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v173 : Index := Scalar.indexCast v14
  ![3, v173.toNat]
def k0_off18 (k0_t1 : Fin k0_t1_loop.trips) : Fin 3 → Nat :=
  let c0_44 : Index := 0#32
  let c384_45 : Index := 384#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v182 : Index := Scalar.indexCast v14
  ![0, 384, v182.toNat]
def k0_off19 (k0_t1 : Fin k0_t1_loop.trips) : Fin 2 → Nat :=
  let c19 : Index := 19#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v186 : Index := Scalar.indexCast v14
  ![19, v186.toNat]
def k0_off20 (k0_t1 : Fin k0_t1_loop.trips) : Fin 3 → Nat :=
  let c1_47 : Index := 1#32
  let c384_48 : Index := 384#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v195 : Index := Scalar.indexCast v14
  ![1, 384, v195.toNat]
def k0_off21 (k0_t1 : Fin k0_t1_loop.trips) : Fin 2 → Nat :=
  let c512 : Index := 512#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v199 : Index := Scalar.indexCast v14
  ![512, v199.toNat]
def k0_off22 (k0_t1 : Fin k0_t1_loop.trips) : Fin 2 → Nat :=
  let c4 : Index := 4#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v219 : Index := Scalar.indexCast v14
  ![4, v219.toNat]
def k0_off23 (k0_t1 : Fin k0_t1_loop.trips) : Fin 3 → Nat :=
  let c0_54 : Index := 0#32
  let c512_55 : Index := 512#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v228 : Index := Scalar.indexCast v14
  ![0, 512, v228.toNat]
def k0_off24 (k0_t1 : Fin k0_t1_loop.trips) : Fin 2 → Nat :=
  let c20 : Index := 20#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v232 : Index := Scalar.indexCast v14
  ![20, v232.toNat]
def k0_off25 (k0_t1 : Fin k0_t1_loop.trips) : Fin 3 → Nat :=
  let c1_57 : Index := 1#32
  let c512_58 : Index := 512#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v241 : Index := Scalar.indexCast v14
  ![1, 512, v241.toNat]
def k0_off26 (k0_t1 : Fin k0_t1_loop.trips) : Fin 2 → Nat :=
  let c640 : Index := 640#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v245 : Index := Scalar.indexCast v14
  ![640, v245.toNat]
def k0_off27 (k0_t1 : Fin k0_t1_loop.trips) : Fin 2 → Nat :=
  let c5 : Index := 5#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v265 : Index := Scalar.indexCast v14
  ![5, v265.toNat]
def k0_off28 (k0_t1 : Fin k0_t1_loop.trips) : Fin 3 → Nat :=
  let c0_64 : Index := 0#32
  let c640_65 : Index := 640#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v274 : Index := Scalar.indexCast v14
  ![0, 640, v274.toNat]
def k0_off29 (k0_t1 : Fin k0_t1_loop.trips) : Fin 2 → Nat :=
  let c21 : Index := 21#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v278 : Index := Scalar.indexCast v14
  ![21, v278.toNat]
def k0_off30 (k0_t1 : Fin k0_t1_loop.trips) : Fin 3 → Nat :=
  let c1_67 : Index := 1#32
  let c640_68 : Index := 640#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v287 : Index := Scalar.indexCast v14
  ![1, 640, v287.toNat]
def k0_off31 (k0_t1 : Fin k0_t1_loop.trips) : Fin 2 → Nat :=
  let c768 : Index := 768#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v291 : Index := Scalar.indexCast v14
  ![768, v291.toNat]
def k0_off32 (k0_t1 : Fin k0_t1_loop.trips) : Fin 2 → Nat :=
  let c6 : Index := 6#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v311 : Index := Scalar.indexCast v14
  ![6, v311.toNat]
def k0_off33 (k0_t1 : Fin k0_t1_loop.trips) : Fin 3 → Nat :=
  let c0_74 : Index := 0#32
  let c768_75 : Index := 768#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v320 : Index := Scalar.indexCast v14
  ![0, 768, v320.toNat]
def k0_off34 (k0_t1 : Fin k0_t1_loop.trips) : Fin 2 → Nat :=
  let c22 : Index := 22#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v324 : Index := Scalar.indexCast v14
  ![22, v324.toNat]
def k0_off35 (k0_t1 : Fin k0_t1_loop.trips) : Fin 3 → Nat :=
  let c1_77 : Index := 1#32
  let c768_78 : Index := 768#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v333 : Index := Scalar.indexCast v14
  ![1, 768, v333.toNat]
def k0_off36 (k0_t1 : Fin k0_t1_loop.trips) : Fin 2 → Nat :=
  let c896 : Index := 896#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v337 : Index := Scalar.indexCast v14
  ![896, v337.toNat]
def k0_off37 (k0_t1 : Fin k0_t1_loop.trips) : Fin 2 → Nat :=
  let c7 : Index := 7#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v357 : Index := Scalar.indexCast v14
  ![7, v357.toNat]
def k0_off38 (k0_t1 : Fin k0_t1_loop.trips) : Fin 3 → Nat :=
  let c0_84 : Index := 0#32
  let c896_85 : Index := 896#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v366 : Index := Scalar.indexCast v14
  ![0, 896, v366.toNat]
def k0_off39 (k0_t1 : Fin k0_t1_loop.trips) : Fin 2 → Nat :=
  let c23 : Index := 23#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v370 : Index := Scalar.indexCast v14
  ![23, v370.toNat]
def k0_off40 (k0_t1 : Fin k0_t1_loop.trips) : Fin 3 → Nat :=
  let c1_87 : Index := 1#32
  let c896_88 : Index := 896#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v379 : Index := Scalar.indexCast v14
  ![1, 896, v379.toNat]
def k0_off41 (k0_t1 : Fin k0_t1_loop.trips) : Fin 2 → Nat :=
  let c1024 : Index := 1024#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v383 : Index := Scalar.indexCast v14
  ![1024, v383.toNat]
def k0_off42 (k0_t1 : Fin k0_t1_loop.trips) : Fin 2 → Nat :=
  let c8 : Index := 8#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v403 : Index := Scalar.indexCast v14
  ![8, v403.toNat]
def k0_off43 (k0_t1 : Fin k0_t1_loop.trips) : Fin 3 → Nat :=
  let c0_94 : Index := 0#32
  let c1024_95 : Index := 1024#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v412 : Index := Scalar.indexCast v14
  ![0, 1024, v412.toNat]
def k0_off44 (k0_t1 : Fin k0_t1_loop.trips) : Fin 2 → Nat :=
  let c24 : Index := 24#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v416 : Index := Scalar.indexCast v14
  ![24, v416.toNat]
def k0_off45 (k0_t1 : Fin k0_t1_loop.trips) : Fin 3 → Nat :=
  let c1_97 : Index := 1#32
  let c1024_98 : Index := 1024#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v425 : Index := Scalar.indexCast v14
  ![1, 1024, v425.toNat]
def k0_off46 (k0_t1 : Fin k0_t1_loop.trips) : Fin 2 → Nat :=
  let c1152 : Index := 1152#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v429 : Index := Scalar.indexCast v14
  ![1152, v429.toNat]
def k0_off47 (k0_t1 : Fin k0_t1_loop.trips) : Fin 2 → Nat :=
  let c9 : Index := 9#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v449 : Index := Scalar.indexCast v14
  ![9, v449.toNat]
def k0_off48 (k0_t1 : Fin k0_t1_loop.trips) : Fin 3 → Nat :=
  let c0_104 : Index := 0#32
  let c1152_105 : Index := 1152#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v458 : Index := Scalar.indexCast v14
  ![0, 1152, v458.toNat]
def k0_off49 (k0_t1 : Fin k0_t1_loop.trips) : Fin 2 → Nat :=
  let c25 : Index := 25#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v462 : Index := Scalar.indexCast v14
  ![25, v462.toNat]
def k0_off50 (k0_t1 : Fin k0_t1_loop.trips) : Fin 3 → Nat :=
  let c1_107 : Index := 1#32
  let c1152_108 : Index := 1152#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v471 : Index := Scalar.indexCast v14
  ![1, 1152, v471.toNat]
def k0_off51 (k0_t1 : Fin k0_t1_loop.trips) : Fin 2 → Nat :=
  let c1280 : Index := 1280#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v475 : Index := Scalar.indexCast v14
  ![1280, v475.toNat]
def k0_off52 (k0_t1 : Fin k0_t1_loop.trips) : Fin 2 → Nat :=
  let c10 : Index := 10#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v495 : Index := Scalar.indexCast v14
  ![10, v495.toNat]
def k0_off53 (k0_t1 : Fin k0_t1_loop.trips) : Fin 3 → Nat :=
  let c0_114 : Index := 0#32
  let c1280_115 : Index := 1280#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v504 : Index := Scalar.indexCast v14
  ![0, 1280, v504.toNat]
def k0_off54 (k0_t1 : Fin k0_t1_loop.trips) : Fin 2 → Nat :=
  let c26 : Index := 26#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v508 : Index := Scalar.indexCast v14
  ![26, v508.toNat]
def k0_off55 (k0_t1 : Fin k0_t1_loop.trips) : Fin 3 → Nat :=
  let c1_117 : Index := 1#32
  let c1280_118 : Index := 1280#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v517 : Index := Scalar.indexCast v14
  ![1, 1280, v517.toNat]
def k0_off56 (k0_t1 : Fin k0_t1_loop.trips) : Fin 2 → Nat :=
  let c1408 : Index := 1408#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v521 : Index := Scalar.indexCast v14
  ![1408, v521.toNat]
def k0_off57 (k0_t1 : Fin k0_t1_loop.trips) : Fin 2 → Nat :=
  let c11 : Index := 11#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v541 : Index := Scalar.indexCast v14
  ![11, v541.toNat]
def k0_off58 (k0_t1 : Fin k0_t1_loop.trips) : Fin 3 → Nat :=
  let c0_124 : Index := 0#32
  let c1408_125 : Index := 1408#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v550 : Index := Scalar.indexCast v14
  ![0, 1408, v550.toNat]
def k0_off59 (k0_t1 : Fin k0_t1_loop.trips) : Fin 2 → Nat :=
  let c27 : Index := 27#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v554 : Index := Scalar.indexCast v14
  ![27, v554.toNat]
def k0_off60 (k0_t1 : Fin k0_t1_loop.trips) : Fin 3 → Nat :=
  let c1_127 : Index := 1#32
  let c1408_128 : Index := 1408#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v563 : Index := Scalar.indexCast v14
  ![1, 1408, v563.toNat]
def k0_off61 (k0_t1 : Fin k0_t1_loop.trips) : Fin 2 → Nat :=
  let c1536 : Index := 1536#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v567 : Index := Scalar.indexCast v14
  ![1536, v567.toNat]
def k0_off62 (k0_t1 : Fin k0_t1_loop.trips) : Fin 2 → Nat :=
  let c12 : Index := 12#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v587 : Index := Scalar.indexCast v14
  ![12, v587.toNat]
def k0_off63 (k0_t1 : Fin k0_t1_loop.trips) : Fin 3 → Nat :=
  let c0_134 : Index := 0#32
  let c1536_135 : Index := 1536#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v596 : Index := Scalar.indexCast v14
  ![0, 1536, v596.toNat]
def k0_off64 (k0_t1 : Fin k0_t1_loop.trips) : Fin 2 → Nat :=
  let c28 : Index := 28#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v600 : Index := Scalar.indexCast v14
  ![28, v600.toNat]
def k0_off65 (k0_t1 : Fin k0_t1_loop.trips) : Fin 3 → Nat :=
  let c1_137 : Index := 1#32
  let c1536_138 : Index := 1536#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v609 : Index := Scalar.indexCast v14
  ![1, 1536, v609.toNat]
def k0_off66 (k0_t1 : Fin k0_t1_loop.trips) : Fin 2 → Nat :=
  let c1664 : Index := 1664#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v613 : Index := Scalar.indexCast v14
  ![1664, v613.toNat]
def k0_off67 (k0_t1 : Fin k0_t1_loop.trips) : Fin 2 → Nat :=
  let c13 : Index := 13#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v633 : Index := Scalar.indexCast v14
  ![13, v633.toNat]
def k0_off68 (k0_t1 : Fin k0_t1_loop.trips) : Fin 3 → Nat :=
  let c0_144 : Index := 0#32
  let c1664_145 : Index := 1664#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v642 : Index := Scalar.indexCast v14
  ![0, 1664, v642.toNat]
def k0_off69 (k0_t1 : Fin k0_t1_loop.trips) : Fin 2 → Nat :=
  let c29 : Index := 29#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v646 : Index := Scalar.indexCast v14
  ![29, v646.toNat]
def k0_off70 (k0_t1 : Fin k0_t1_loop.trips) : Fin 3 → Nat :=
  let c1_147 : Index := 1#32
  let c1664_148 : Index := 1664#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v655 : Index := Scalar.indexCast v14
  ![1, 1664, v655.toNat]
def k0_off71 (k0_t1 : Fin k0_t1_loop.trips) : Fin 2 → Nat :=
  let c1792 : Index := 1792#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v659 : Index := Scalar.indexCast v14
  ![1792, v659.toNat]
def k0_off72 (k0_t1 : Fin k0_t1_loop.trips) : Fin 2 → Nat :=
  let c14 : Index := 14#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v679 : Index := Scalar.indexCast v14
  ![14, v679.toNat]
def k0_off73 (k0_t1 : Fin k0_t1_loop.trips) : Fin 3 → Nat :=
  let c0_154 : Index := 0#32
  let c1792_155 : Index := 1792#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v688 : Index := Scalar.indexCast v14
  ![0, 1792, v688.toNat]
def k0_off74 (k0_t1 : Fin k0_t1_loop.trips) : Fin 2 → Nat :=
  let c30 : Index := 30#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v692 : Index := Scalar.indexCast v14
  ![30, v692.toNat]
def k0_off75 (k0_t1 : Fin k0_t1_loop.trips) : Fin 3 → Nat :=
  let c1_157 : Index := 1#32
  let c1792_158 : Index := 1792#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v701 : Index := Scalar.indexCast v14
  ![1, 1792, v701.toNat]
def k0_off76 (k0_t1 : Fin k0_t1_loop.trips) : Fin 2 → Nat :=
  let c1920 : Index := 1920#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v705 : Index := Scalar.indexCast v14
  ![1920, v705.toNat]
def k0_off77 (k0_t1 : Fin k0_t1_loop.trips) : Fin 2 → Nat :=
  let c15 : Index := 15#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v725 : Index := Scalar.indexCast v14
  ![15, v725.toNat]
def k0_off78 (k0_t1 : Fin k0_t1_loop.trips) : Fin 3 → Nat :=
  let c0_164 : Index := 0#32
  let c1920_165 : Index := 1920#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v734 : Index := Scalar.indexCast v14
  ![0, 1920, v734.toNat]
def k0_off79 (k0_t1 : Fin k0_t1_loop.trips) : Fin 2 → Nat :=
  let c31 : Index := 31#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v738 : Index := Scalar.indexCast v14
  ![31, v738.toNat]
def k0_off80 (k0_t1 : Fin k0_t1_loop.trips) : Fin 3 → Nat :=
  let c1_167 : Index := 1#32
  let c1920_168 : Index := 1920#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c128_i32 : BitVec 32 := 128#32
  let v13 : BitVec 32 := Scalar.muli v12 c128_i32
  let v14 : BitVec 32 := v13
  let v747 : Index := Scalar.indexCast v14
  ![1, 1920, v747.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S2048x16384 : Shape := ⟨2, ![2048, 16384]⟩
abbrev S32x16384 : Shape := ⟨2, ![32, 16384]⟩
abbrev S2 : Shape := ⟨1, ![2]⟩
abbrev S1x2048x16384 : Shape := ⟨3, ![1, 2048, 16384]⟩
abbrev S2x1x1 : Shape := ⟨3, ![2, 1, 1]⟩
abbrev S2x2048x16384 : Shape := ⟨3, ![2, 2048, 16384]⟩
abbrev S_ : Shape := ⟨0, ![]⟩
abbrev S32x128x16384 : Shape := ⟨3, ![32, 128, 16384]⟩
abbrev S32x1x16384 : Shape := ⟨3, ![32, 1, 16384]⟩
abbrev S4096x16384 : Shape := ⟨2, ![4096, 16384]⟩

abbrev nBuf : Space → Nat
  | .hbm => 26
  | .vmem => 0
  | .smem => 0
  | _ => 0

abbrev bufTy : (tb : Table) → Fin (tcTables nBuf tb) → BufTy
  | .hbm, ⟨0, _⟩ => ⟨S2048x16384, .i8⟩
  | .hbm, ⟨1, _⟩ => ⟨S32x16384, .bf16⟩
  | .hbm, ⟨2, _⟩ => ⟨S32x16384, .bf16⟩
  | .hbm, ⟨3, _⟩ => ⟨S2, .i32⟩
  | .hbm, ⟨4, _⟩ => ⟨S2048x16384, .i32⟩
  | .hbm, ⟨5, _⟩ => ⟨S1x2048x16384, .i32⟩
  | .hbm, ⟨6, _⟩ => ⟨S2x1x1, .i32⟩
  | .hbm, ⟨7, _⟩ => ⟨S2x2048x16384, .i32⟩
  | .hbm, ⟨8, _⟩ => ⟨S2x2048x16384, .i32⟩
  | .hbm, ⟨9, _⟩ => ⟨S2x2048x16384, .i32⟩
  | .hbm, ⟨10, _⟩ => ⟨S_, .i32⟩
  | .hbm, ⟨11, _⟩ => ⟨S2x2048x16384, .i32⟩
  | .hbm, ⟨12, _⟩ => ⟨S2x2048x16384, .i32⟩
  | .hbm, ⟨13, _⟩ => ⟨S2x2048x16384, .f32⟩
  | .hbm, ⟨14, _⟩ => ⟨S32x128x16384, .f32⟩
  | .hbm, ⟨15, _⟩ => ⟨S32x16384, .f32⟩
  | .hbm, ⟨16, _⟩ => ⟨S32x1x16384, .f32⟩
  | .hbm, ⟨17, _⟩ => ⟨S32x16384, .f32⟩
  | .hbm, ⟨18, _⟩ => ⟨S32x1x16384, .f32⟩
  | .hbm, ⟨19, _⟩ => ⟨S32x128x16384, .f32⟩
  | .hbm, ⟨20, _⟩ => ⟨S32x128x16384, .f32⟩
  | .hbm, ⟨21, _⟩ => ⟨S32x128x16384, .f32⟩
  | .hbm, ⟨22, _⟩ => ⟨S32x128x16384, .f32⟩
  | .hbm, ⟨23, _⟩ => ⟨S32x128x16384, .bf16⟩
  | .hbm, ⟨24, _⟩ => ⟨S4096x16384, .bf16⟩
  | .hbm, ⟨25, _⟩ => ⟨S2x2048x16384, .bf16⟩
  | _, _ => ⟨S2048x16384, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Nibble.lean ====
/- One element of the answer, as plain mathematics: a four-bit half of a stored byte, read as a number, less its
   zero point, times its scale. Both programs are shown to compute this; the four facts about bytes below say how
   each program's integer arithmetic picks the half. Each of them is a statement about the 256 bytes, decided. -/
module

public import Idealize.ShloMosaic.PureOps
public import Idealize.ShloMosaic.PureOps.Ideal

@[expose] public section

noncomputable section

namespace Cert.Dequant

open Idealize.ShloMosaic

/-- Half `h` of the byte `b`: its low four bits (`h = 0`) or its high four bits (`h = 1`), as a number below 16. -/
def nib (h : Fin 2) (b : BitVec 8) : ℕ := b.toNat / 16 ^ h.val % 16

/-- One dequantised element: the half `h` of the byte `b`, less the zero point `z`, times the scale `s`. -/
def deq (h : Fin 2) (b : BitVec 8) (z s : EReal) : EReal := (((nib h b : ℕ) : ℝ) - z) * s

/-- The kernel's low half: the byte widened, masked by 15, cut to four bits. -/
theorem kernel_lo (b : BitVec 8) : (BitVec.setWidth 4 (IntOp.andi (BitVec.setWidth 32 b) 15#32)).toNat = nib 0 b := by
  revert b; decide +kernel

/-- The kernel's high half: the byte widened, shifted right by four, cut to four bits. -/
theorem kernel_hi (b : BitVec 8) :
    (BitVec.setWidth 4 (IntOp.shrsi ArithUnit.vector (BitVec.setWidth 32 b) 4#32)).toNat = nib 1 b := by
  revert b; decide +kernel

/-- The reference's low half: the byte widened, shifted right by zero, masked by 15, read as a signed word. -/
theorem reference_lo (b : BitVec 8) :
    (IntOp.andi (IntOp.shrsi ArithUnit.host (BitVec.setWidth 32 b) 0#32) 15#32).toInt = (nib 0 b : ℤ) := by
  revert b; decide +kernel

/-- The reference's high half: the byte widened, shifted right by four, masked by 15, read as a signed word. -/
theorem reference_hi (b : BitVec 8) :
    (IntOp.andi (IntOp.shrsi ArithUnit.host (BitVec.setWidth 32 b) 4#32) 15#32).toInt = (nib 1 b : ℤ) := by
  revert b; decide +kernel

end Cert.Dequant

end
-- ==== Proof.Block.lean ====
/- What one block of the kernel computes. A grid point dequantises 2048 rows by 512 columns of bytes: four trips of
   128 columns, each of 16 groups of 128 rows, each group stored twice (its low halves and its high halves). One lemma
   reads a low store at an index and one a high store, for any group and any trip; every store of every trip is an
   instance. So the block holds ONE function of the bytes, the zero points and the scales. -/
module

public import proofs.«01_k».proof.Proof.Gen.KernelIdeal.Frame
public import proofs.«01_k».proof.Proof.Nibble
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Cert.Dequant

/-- The group of row `r` of half `h`. -/
theorem group_lt (h : Fin 2) (r : Fin 2048) : h.val * 16 + r.val / 128 < 32 := by omega

/-- What a block holds at half `h`, row `r`, column `l`: the dequantised element of byte `(r, l)`, with the zero point
    and the scale of group `16 h + r / 128` in that column. -/
def blockAt (A : Vec Ideal S2048x512 .i8) (Z S : Vec Ideal S32x512 .f32) (h : Fin 2) (r : Fin 2048) (l : Fin 512) : EReal :=
  deq h (A (ix2 r l)) (Z (ix2 ⟨h.val * 16 + r.val / 128, group_lt h r⟩ l)) (S (ix2 ⟨h.val * 16 + r.val / 128, group_lt h r⟩ l))

/-- … as a block. -/
def block (A : Vec Ideal S2048x512 .i8) (Z S : Vec Ideal S32x512 .f32) : Vec Ideal S2x2048x512 .bf16 :=
  fun y => blockAt A Z S (y 0) (y 1) (y 2)

/-! ## One store's payload at an index -/

/-- A low store: the low half of each byte, dequantised by the one row of zero points and of scales. -/
theorem lo_at (w : Vec Ideal S128x128 .i8) (z s : Vec Ideal S1x128 .f32) (u : Fin 1) (r : Fin 128) (l : Fin 128) :
    k0_pay5 (F := Ideal) w z s (ix3 u r l) = deq 0 (w (ix2 r l)) (z (ix2 0 l)) (s (ix2 0 l)) := by
  pointwise [k0_pay5, k0_pay4]
  unfold deq
  rw [dif_pos (by omega), ← kernel_lo]
  rfl

/-- A high store: the high half of each byte likewise. -/
theorem hi_at (w : Vec Ideal S128x128 .i8) (z s : Vec Ideal S1x128 .f32) (u : Fin 1) (r : Fin 128) (l : Fin 128) :
    k0_pay7 (F := Ideal) (k0_pay6 (F := Ideal) w z s) (ix3 u r l) = deq 1 (w (ix2 r l)) (z (ix2 0 l)) (s (ix2 0 l)) := by
  pointwise [k0_pay4, k0_pay6, k0_pay7]
  unfold deq
  rw [dif_neg (by omega), ← kernel_hi]
  rfl

/-! ## One store's payload is the block at the store's place -/

section Piece

variable (arg1 : Memref sig .tc .vmem S2048x512 .i8) (arg5 arg6 : Memref sig .tc .vmem S32x512 .f32)
  (X1 : BufTy.Contents (Elt Ideal) arg1.view.ty) (X5 : BufTy.Contents (Elt Ideal) arg5.view.ty)
  (X6 : BufTy.Contents (Elt Ideal) arg6.view.ty)
  {o1 o2 : Fin 2 → ℕ} {o3 : Fin 3 → ℕ} (i1 : ∀ a, o1 a + S128x128.size a ≤ S2048x512.size a)
  (i2 : ∀ a, o2 a + S1x128.size a ≤ S32x512.size a) (i3 : ∀ a, o3 a + S1x128x128.size a ≤ S2x2048x512.size a)

/-- The store of half `h` of group `g`, at columns `C …`: what its three loads give at row `r`, column `l` of the
    store is what the block's formula reads at the place where the store puts that element. -/
theorem place (h : Fin 2) (g C : ℕ) (h1 : o1 = ![128 * g, C]) (h2 : o2 = ![h.val * 16 + g, C]) (h3 : o3 = ![h.val, 128 * g, C])
    (u : Fin 1) (r l : Fin 128) :
    deq h (View.readAt (Elt Ideal) arg1.view (Rect.unit (s := S2048x512) o1 S128x128.size i1).toLoadRect X1 (ix2 r l))
        (View.readAt (Elt Ideal) arg6.view (Rect.unit (s := S32x512) o2 S1x128.size i2).toLoadRect X6 (ix2 0 l))
        (View.readAt (Elt Ideal) arg5.view (Rect.unit (s := S32x512) o2 S1x128.size i2).toLoadRect X5 (ix2 0 l))
      = block (arg1.view.read (Elt Ideal) X1) (arg6.view.read (Elt Ideal) X6) (arg5.view.read (Elt Ideal) X5)
          ((Rect.unit (s := S2x2048x512) o3 S1x128x128.size i3).emb (ix3 u r l)) := by
  have e0 : (((Rect.unit (s := S2x2048x512) o3 S1x128x128.size i3).emb (ix3 u r l)) 0 : Fin 2) = h := by
    apply Fin.ext; show o3 0 + 1 * u.val = h.val; rw [h3]; show h.val + 1 * u.val = h.val; omega
  have e1 : (((Rect.unit (s := S2x2048x512) o3 S1x128x128.size i3).emb (ix3 u r l)) 1 : Fin 2048).val = 128 * g + r.val := by
    show o3 1 + 1 * r.val = _; rw [h3]; show 128 * g + 1 * r.val = _; omega
  have e2 : (((Rect.unit (s := S2x2048x512) o3 S1x128x128.size i3).emb (ix3 u r l)) 2 : Fin 512).val = C + l.val := by
    show o3 2 + 1 * l.val = _; rw [h3]; show C + 1 * l.val = _; omega
  have hg : (128 * g + r.val) / 128 = g := by omega
  unfold block blockAt
  rw [e0]
  have p1 : (Rect.unit (s := S2048x512) o1 S128x128.size i1).toLoadRect.idx (ix2 r l)
      = ix2 (((Rect.unit (s := S2x2048x512) o3 S1x128x128.size i3).emb (ix3 u r l)) 1)
          (((Rect.unit (s := S2x2048x512) o3 S1x128x128.size i3).emb (ix3 u r l)) 2) := by
    funext a
    match a with
    | 0 => apply Fin.ext; refine Eq.trans ?_ e1.symm; show o1 0 + 1 * r.val = _; rw [h1]; show 128 * g + 1 * r.val = _; omega
    | 1 => apply Fin.ext; refine Eq.trans ?_ e2.symm; show o1 1 + 1 * l.val = _; rw [h1]; show C + 1 * l.val = _; omega
  have p2 : (Rect.unit (s := S32x512) o2 S1x128.size i2).toLoadRect.idx (ix2 0 l)
      = ix2 ⟨h.val * 16 + (((Rect.unit (s := S2x2048x512) o3 S1x128x128.size i3).emb (ix3 u r l)) 1 : Fin 2048).val / 128, group_lt _ _⟩
          (((Rect.unit (s := S2x2048x512) o3 S1x128x128.size i3).emb (ix3 u r l)) 2) := by
    funext a
    match a with
    | 0 => apply Fin.ext; show o2 0 + 1 * 0 = h.val * 16 + _ / 128; rw [e1, hg, h2]; rfl
    | 1 => apply Fin.ext; refine Eq.trans ?_ e2.symm; show o2 1 + 1 * l.val = _; rw [h2]; show C + 1 * l.val = _; omega
  show deq h (arg1.view.read (Elt Ideal) X1 _) (arg6.view.read (Elt Ideal) X6 _) (arg5.view.read (Elt Ideal) X5 _) = _
  rw [p1, p2]
  rfl

/-- The low store of group `g`, at columns `C …`. -/
theorem lo_piece (g C : ℕ) (h1 : o1 = ![128 * g, C]) (h2 : o2 = ![0 * 16 + g, C]) (h3 : o3 = ![0, 128 * g, C]) (x : S1x128x128.Idx) :
    k0_pay5 (F := Ideal) (View.readAt (Elt Ideal) arg1.view (Rect.unit (s := S2048x512) o1 S128x128.size i1).toLoadRect X1)
        (View.readAt (Elt Ideal) arg6.view (Rect.unit (s := S32x512) o2 S1x128.size i2).toLoadRect X6)
        (View.readAt (Elt Ideal) arg5.view (Rect.unit (s := S32x512) o2 S1x128.size i2).toLoadRect X5) x
      = block (arg1.view.read (Elt Ideal) X1) (arg6.view.read (Elt Ideal) X6) (arg5.view.read (Elt Ideal) X5)
          ((Rect.unit (s := S2x2048x512) o3 S1x128x128.size i3).emb x) := by
  obtain ⟨u, r, l, rfl⟩ : ∃ (u : Fin 1) (r : Fin 128) (l : Fin 128), x = ix3 u r l := ⟨x 0, x 1, x 2, eq_ix3 x⟩
  exact (lo_at _ _ _ u r l).trans (place arg1 arg5 arg6 X1 X5 X6 i1 i2 i3 0 g C h1 h2 h3 u r l)

/-- The high store of group `g`, at columns `C …`. -/
theorem hi_piece (g C : ℕ) (h1 : o1 = ![128 * g, C]) (h2 : o2 = ![1 * 16 + g, C]) (h3 : o3 = ![1, 128 * g, C]) (x : S1x128x128.Idx) :
    k0_pay7 (F := Ideal) (k0_pay6 (F := Ideal) (View.readAt (Elt Ideal) arg1.view (Rect.unit (s := S2048x512) o1 S128x128.size i1).toLoadRect X1)
        (View.readAt (Elt Ideal) arg6.view (Rect.unit (s := S32x512) o2 S1x128.size i2).toLoadRect X6)
        (View.readAt (Elt Ideal) arg5.view (Rect.unit (s := S32x512) o2 S1x128.size i2).toLoadRect X5)) x
      = block (arg1.view.read (Elt Ideal) X1) (arg6.view.read (Elt Ideal) X6) (arg5.view.read (Elt Ideal) X5)
          ((Rect.unit (s := S2x2048x512) o3 S1x128x128.size i3).emb x) := by
  obtain ⟨u, r, l, rfl⟩ : ∃ (u : Fin 1) (r : Fin 128) (l : Fin 128), x = ix3 u r l := ⟨x 0, x 1, x 2, eq_ix3 x⟩
  exact (hi_at _ _ _ u r l).trans (place arg1 arg5 arg6 X1 X5 X6 i1 i2 i3 1 g C h1 h2 h3 u r l)

end Piece

/-- EVERY STORE OF A TRIP agrees with the block. -/
theorem trip_pieces (𝒱 : Variants) (c : Dev nD) (bd : Option 𝒱.V) (i : grid0.Coords) (arg1 : Memref sig .tc .vmem S2048x512 .i8) (harg1 : arg1.IsWhole) (arg2 : Memref sig .tc .vmem S32x512 .bf16) (harg2 : arg2.IsWhole) (arg3 : Memref sig .tc .vmem S32x512 .bf16) (harg3 : arg3.IsWhole) (arg4 : Memref sig .tc .vmem S2x2048x512 .bf16) (harg4 : arg4.IsWhole) (arg5 : Memref sig .tc .vmem S32x512 .f32) (harg5 : arg5.IsWhole) (arg6 : Memref sig .tc .vmem S32x512 .f32) (harg6 : arg6.IsWhole)
    (X1 : BufTy.Contents (Elt Ideal) arg1.view.ty) (X5 : BufTy.Contents (Elt Ideal) arg5.view.ty)
    (X6 : BufTy.Contents (Elt Ideal) arg6.view.ty) (k : Fin k0_t1_loop.trips) :
    ∀ p ∈ tripL_k0_t1 (F := Ideal) 𝒱 c bd i arg1 harg1 arg2 harg2 arg3 harg3 arg4 harg4 arg5 harg5 arg6 harg6 X1 X5 X6 k, ∀ x : p.1.shape.Idx,
      p.2 x = block (arg1.view.read (Elt Ideal) X1) (arg6.view.read (Elt Ideal) X6) (arg5.view.read (Elt Ideal) X5) (p.1.emb x) := by
  unfold tripL_k0_t1 trip_k0_t1
  dsimp only
  simp only [List.forall_mem_cons]
  exact ⟨
    hi_piece arg1 arg5 arg6 X1 X5 X6 _ _ _ 15 _ (k0_off76_eq k) (k0_off79_eq k) (k0_off80_eq k),
    lo_piece arg1 arg5 arg6 X1 X5 X6 _ _ _ 15 _ (k0_off76_eq k) (k0_off77_eq k) (k0_off78_eq k),
    hi_piece arg1 arg5 arg6 X1 X5 X6 _ _ _ 14 _ (k0_off71_eq k) (k0_off74_eq k) (k0_off75_eq k),
    lo_piece arg1 arg5 arg6 X1 X5 X6 _ _ _ 14 _ (k0_off71_eq k) (k0_off72_eq k) (k0_off73_eq k),
    hi_piece arg1 arg5 arg6 X1 X5 X6 _ _ _ 13 _ (k0_off66_eq k) (k0_off69_eq k) (k0_off70_eq k),
    lo_piece arg1 arg5 arg6 X1 X5 X6 _ _ _ 13 _ (k0_off66_eq k) (k0_off67_eq k) (k0_off68_eq k),
    hi_piece arg1 arg5 arg6 X1 X5 X6 _ _ _ 12 _ (k0_off61_eq k) (k0_off64_eq k) (k0_off65_eq k),
    lo_piece arg1 arg5 arg6 X1 X5 X6 _ _ _ 12 _ (k0_off61_eq k) (k0_off62_eq k) (k0_off63_eq k),
    hi_piece arg1 arg5 arg6 X1 X5 X6 _ _ _ 11 _ (k0_off56_eq k) (k0_off59_eq k) (k0_off60_eq k),
    lo_piece arg1 arg5 arg6 X1 X5 X6 _ _ _ 11 _ (k0_off56_eq k) (k0_off57_eq k) (k0_off58_eq k),
    hi_piece arg1 arg5 arg6 X1 X5 X6 _ _ _ 10 _ (k0_off51_eq k) (k0_off54_eq k) (k0_off55_eq k),
    lo_piece arg1 arg5 arg6 X1 X5 X6 _ _ _ 10 _ (k0_off51_eq k) (k0_off52_eq k) (k0_off53_eq k),
    hi_piece arg1 arg5 arg6 X1 X5 X6 _ _ _ 9 _ (k0_off46_eq k) (k0_off49_eq k) (k0_off50_eq k),
    lo_piece arg1 arg5 arg6 X1 X5 X6 _ _ _ 9 _ (k0_off46_eq k) (k0_off47_eq k) (k0_off48_eq k),
    hi_piece arg1 arg5 arg6 X1 X5 X6 _ _ _ 8 _ (k0_off41_eq k) (k0_off44_eq k) (k0_off45_eq k),
    lo_piece arg1 arg5 arg6 X1 X5 X6 _ _ _ 8 _ (k0_off41_eq k) (k0_off42_eq k) (k0_off43_eq k),
    hi_piece arg1 arg5 arg6 X1 X5 X6 _ _ _ 7 _ (k0_off36_eq k) (k0_off39_eq k) (k0_off40_eq k),
    lo_piece arg1 arg5 arg6 X1 X5 X6 _ _ _ 7 _ (k0_off36_eq k) (k0_off37_eq k) (k0_off38_eq k),
    hi_piece arg1 arg5 arg6 X1 X5 X6 _ _ _ 6 _ (k0_off31_eq k) (k0_off34_eq k) (k0_off35_eq k),
    lo_piece arg1 arg5 arg6 X1 X5 X6 _ _ _ 6 _ (k0_off31_eq k) (k0_off32_eq k) (k0_off33_eq k),
    hi_piece arg1 arg5 arg6 X1 X5 X6 _ _ _ 5 _ (k0_off26_eq k) (k0_off29_eq k) (k0_off30_eq k),
    lo_piece arg1 arg5 arg6 X1 X5 X6 _ _ _ 5 _ (k0_off26_eq k) (k0_off27_eq k) (k0_off28_eq k),
    hi_piece arg1 arg5 arg6 X1 X5 X6 _ _ _ 4 _ (k0_off21_eq k) (k0_off24_eq k) (k0_off25_eq k),
    lo_piece arg1 arg5 arg6 X1 X5 X6 _ _ _ 4 _ (k0_off21_eq k) (k0_off22_eq k) (k0_off23_eq k),
    hi_piece arg1 arg5 arg6 X1 X5 X6 _ _ _ 3 _ (k0_off16_eq k) (k0_off19_eq k) (k0_off20_eq k),
    lo_piece arg1 arg5 arg6 X1 X5 X6 _ _ _ 3 _ (k0_off16_eq k) (k0_off17_eq k) (k0_off18_eq k),
    hi_piece arg1 arg5 arg6 X1 X5 X6 _ _ _ 2 _ (k0_off11_eq k) (k0_off14_eq k) (k0_off15_eq k),
    lo_piece arg1 arg5 arg6 X1 X5 X6 _ _ _ 2 _ (k0_off11_eq k) (k0_off12_eq k) (k0_off13_eq k),
    hi_piece arg1 arg5 arg6 X1 X5 X6 _ _ _ 1 _ (k0_off6_eq k) (k0_off9_eq k) (k0_off10_eq k),
    lo_piece arg1 arg5 arg6 X1 X5 X6 _ _ _ 1 _ (k0_off6_eq k) (k0_off7_eq k) (k0_off8_eq k),
    hi_piece arg1 arg5 arg6 X1 X5 X6 _ _ _ 0 _ (k0_off1_eq k) (k0_off4_eq k) (k0_off5_eq k),
    lo_piece arg1 arg5 arg6 X1 X5 X6 _ _ _ 0 _ (k0_off1_eq k) (k0_off2_eq k) (k0_off3_eq k),
    fun _ h => absurd h List.not_mem_nil⟩

/-- … so does every store of the trips before `n`. -/
theorem loop_pieces (𝒱 : Variants) (c : Dev nD) (bd : Option 𝒱.V) (i : grid0.Coords) (arg1 : Memref sig .tc .vmem S2048x512 .i8) (harg1 : arg1.IsWhole) (arg2 : Memref sig .tc .vmem S32x512 .bf16) (harg2 : arg2.IsWhole) (arg3 : Memref sig .tc .vmem S32x512 .bf16) (harg3 : arg3.IsWhole) (arg4 : Memref sig .tc .vmem S2x2048x512 .bf16) (harg4 : arg4.IsWhole) (arg5 : Memref sig .tc .vmem S32x512 .f32) (harg5 : arg5.IsWhole) (arg6 : Memref sig .tc .vmem S32x512 .f32) (harg6 : arg6.IsWhole)
    (X1 : BufTy.Contents (Elt Ideal) arg1.view.ty) (X5 : BufTy.Contents (Elt Ideal) arg5.view.ty)
    (X6 : BufTy.Contents (Elt Ideal) arg6.view.ty) (n : ℕ) :
    ∀ p ∈ pb_k0_t1 (F := Ideal) 𝒱 c bd i arg1 harg1 arg2 harg2 arg3 harg3 arg4 harg4 arg5 harg5 arg6 harg6 X1 X5 X6 n, ∀ x : p.1.shape.Idx,
      p.2 x = block (arg1.view.read (Elt Ideal) X1) (arg6.view.read (Elt Ideal) X6) (arg5.view.read (Elt Ideal) X5) (p.1.emb x) := by
  induction n with
  | zero => exact fun p hp => absurd hp List.not_mem_nil
  | succ n ih =>
    rw [pb_k0_t1.eq_2]
    unfold pb_k0_t1Step
    split
    · intro p hp
      rcases List.mem_append.mp hp with hp | hp
      · exact trip_pieces 𝒱 c bd i arg1 harg1 arg2 harg2 arg3 harg3 arg4 harg4 arg5 harg5 arg6 harg6 X1 X5 X6 _ p hp
      · exact ih p hp
    · exact ih

/-! ## The block a grid point leaves -/

/-- Widening the scales into their scratch buffer changes no value. -/
theorem widen_scales (v : Vec Ideal S32x512 .bf16) : k0_pay1 (F := Ideal) v = v := by
  funext y; idx_vars y; pointwise [k0_pay1]

/-- Widening the zero points likewise. -/
theorem widen_zeros (v : Vec Ideal S32x512 .bf16) : k0_pay2 (F := Ideal) v = v := by
  funext y; idx_vars y; pointwise [k0_pay2]

/-- A whole input block, loaded. -/
theorem load_whole (a : Memref sig .tc .vmem S32x512 .bf16) (ha : a.IsWhole) (x : Vec Ideal S32x512 .bf16)
    (inb : ∀ b, (![0, 0] : Fin 2 → ℕ) b + S32x512.size b ≤ S32x512.size b) :
    View.readAt (Elt Ideal) a.view (Rect.unit (s := S32x512) ![0, 0] S32x512.size inb).toLoadRect (ha.unread x) = x := by
  funext y
  show a.view.read (Elt Ideal) (ha.unread x) _ = x y
  rw [ha.read_unread]
  refine congrArg x (funext fun b => Fin.ext ?_)
  match b with
  | 0 => show 0 + 1 * (y 0).val = _; omega
  | 1 => show 0 + 1 * (y 1).val = _; omega

/-- A scratch buffer stored whole reads back what was stored. -/
theorem read_whole (v : Memref sig .tc .vmem S32x512 .f32) (w : Vec Ideal S32x512 .f32)
    (inb : ∀ b, (![0, 0] : Fin 2 → ℕ) b + S32x512.size b ≤ S32x512.size b) :
    v.view.read (Elt Ideal) (v.view.writes (Elt Ideal) v.view.junk [⟨Rect.unit (s := S32x512) ![0, 0] S32x512.size inb, w⟩]) = w := by
  funext y
  refine View.read_writes_cons_hit_of_coords v.view v.view.junk (Rect.unit (s := S32x512) ![0, 0] S32x512.size inb) w [] y y fun b => ?_
  match b with
  | 0 => show _ = 0 + 1 * (y 0).val; omega
  | 1 => show _ = 0 + 1 * (y 1).val; omega

/-- WHAT A GRID POINT LEAVES in its output block, from its three input blocks. -/
theorem out_eq (c : Dev nD) (i : grid0.Coords) (arg1 : Memref sig .tc .vmem S2048x512 .i8) (harg1 : arg1.IsWhole) (arg2 : Memref sig .tc .vmem S32x512 .bf16) (harg2 : arg2.IsWhole) (arg3 : Memref sig .tc .vmem S32x512 .bf16) (harg3 : arg3.IsWhole) (arg4 : Memref sig .tc .vmem S2x2048x512 .bf16) (harg4 : arg4.IsWhole) (arg5 : Memref sig .tc .vmem S32x512 .f32) (harg5 : arg5.IsWhole) (arg6 : Memref sig .tc .vmem S32x512 .f32) (harg6 : arg6.IsWhole) (x0 : Vec Ideal S2048x512 .i8) (x1 x2 : Vec Ideal S32x512 .bf16) :
    out0_A_3 (F := Ideal) c i arg1 harg1 arg2 harg2 arg3 harg3 arg4 harg4 arg5 harg5 arg6 harg6 x0 x1 x2 = block x0 x2 x1 := by
  funext y
  unfold out0_A_3
  refine View.read_writes_apply_of_pieces _ _ (block x0 x2 x1) _ ?_ y (cover0_A_3 c i arg1 harg1 arg2 harg2 arg3 harg3 arg4 harg4 arg5 harg5 arg6 harg6 x0 x1 x2 y)
  unfold kernelRun0_A
  dsimp only
  intro p hp x
  refine (loop_pieces _ _ _ _ arg1 harg1 arg2 harg2 arg3 harg3 arg4 harg4 arg5 harg5 arg6 harg6 _ _ _ _ p hp x).trans ?_
  rw [harg1.read_unread]
  unfold kernelRun0_A.sl.HS0_1 kernelRun0_A.sl.HS1_1
  rw [read_whole, read_whole, load_whole, load_whole, widen_scales, widen_zeros]

end Cert.KernelIdeal.Block

end
-- ==== Proof.Array.lean ====
/- What the result array holds after the kernel: grid point `t` writes columns `512 t … 512 t + 511`, the 32 points
   tile the array, and each block is the dequantisation of the same columns of the arguments. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.KernelIdeal.Array

open Cert.KernelIdeal Cert.KernelIdeal.Gen Cert.KernelIdeal.Block
open Idealize.ShloMosaic Idealize.ShloMosaic.TcCoe Idealize.ShloMosaic.Tactic Cert.Dequant

variable (m : (ℓ : Loc nD τ sig) → Buf (Elt Ideal) ℓ)

/-- The dequantised matrix at half `h`, row `r`, column `l`. -/
def wholeAt (w : Vec Ideal S2048x16384 .i8) (s z : Vec Ideal S32x16384 .bf16) (h : Fin 2) (r : Fin 2048) (l : Fin 16384) : EReal :=
  deq h (w (ix2 r l)) (z (ix2 ⟨h.val * 16 + r.val / 128, group_lt h r⟩ l)) (s (ix2 ⟨h.val * 16 + r.val / 128, group_lt h r⟩ l))

/-- … as an array, from the packed bytes, the scales and the zero points. -/
def whole (w : Vec Ideal S2048x16384 .i8) (s z : Vec Ideal S32x16384 .bf16) : Vec Ideal S2x2048x16384 .bf16 :=
  fun y => wholeAt w s z (y 0) (y 1) (y 2)

/-- Equal ingredients give equal elements. -/
theorem deq_congr {h h' : Fin 2} {b b' : BitVec 8} {z z' s s' : EReal} (hh : h = h') (hb : b = b') (hz : z = z') (hs : s = s') :
    deq h b z s = deq h' b' z' s' := by rw [hh, hb, hz, hs]

/-- Every window's block index at point `t`: the whole of every axis but the columns, column block `t`. -/
theorem idx : ∀ t : Fin cfg0.N, win0_0.index t = ![0, t.val] ∧ win0_1.index t = ![0, t.val] ∧ win0_2.index t = ![0, t.val]
    ∧ win0_3.index t = ![0, 0, t.val] :=
  (by decide +kernel : ∀ t : Fin grid0.N, win0_0.index t = ![0, t.val] ∧ win0_1.index t = ![0, t.val] ∧ win0_2.index t = ![0, t.val]
    ∧ win0_3.index t = ![0, 0, t.val])

/-- THE RESULT ARRAY after the kernel's run is the dequantised matrix. -/
theorem final (c : Dev nD) : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [out_eq]
  unfold block blockAt whole wholeAt
  obtain ⟨h0, h1, h2, h3⟩ := idx t
  refine deq_congr ?_ ?_ ?_ ?_
  · apply Fin.ext; blk_simp [h3]
  · blk_ext [iblk, V, h0, h3]
  · blk_ext [iblk, V, h2, h3]
  · blk_ext [iblk, V, h1, h3]

end Cert.KernelIdeal.Array

end
-- ==== Proof.Reference.lean ====
/- What the reference computes, read at one place of its result: half `h`, row `r`, column `l` holds the
   dequantised element of byte `(r, l)`, with the zero point and the scale of group `16 h + r / 128`. -/
module

public import proofs.«01_k».proof.Proof.Gen.ReferenceIdeal.Run
public import proofs.«01_k».proof.Proof.Nibble
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Cert.Dequant

/-- The reference's result as one term of its three arguments: the packed bytes, the scales, the zero points. -/
def composed (w : Vec Ideal S2048x16384 .i8) (s z : Vec Ideal S32x16384 .bf16) : Vec Ideal S2x2048x16384 .bf16 :=
  shapeCast _ (shapeCast _ (truncf (F := Ideal) .bf16 (mulf (F := Ideal) (subf (F := Ideal) (shapeCast _ (sitofp (F := Ideal) .f32 (andi (Host.shrsi (broadcastInDim S2x2048x16384 ![0, 1, 2] bcast_S1x2048x16384_S2x2048x16384_0_1_2 (broadcastInDim S1x2048x16384 ![1, 2] bcast_S2048x16384_S1x2048x16384_1_2 (extui 32 w natLt_8_32))) (broadcastInDim S2x2048x16384 ![0, 1, 2] bcast_S2x1x1_S2x2048x16384_0_1_2 (shapeCast _ ((fun i => lit0 (S2.rowMajor i))) shapeCasts_S2_S2x1x1))) (broadcastInDim S2x2048x16384 ![] bcast_S_S2x2048x16384 (constantI S_ 32 15#32)))) shapeCasts_S2x2048x16384_S32x128x16384) (broadcastInDim S32x128x16384 ![0, 1, 2] bcast_S32x1x16384_S32x128x16384_0_1_2 (broadcastInDim S32x1x16384 ![0, 2] bcast_S32x16384_S32x1x16384_0_2 (extf (F := Ideal) .f32 z bitsLt_bf16_f32)))) (broadcastInDim S32x128x16384 ![0, 1, 2] bcast_S32x1x16384_S32x128x16384_0_1_2 (broadcastInDim S32x1x16384 ![0, 2] bcast_S32x16384_S32x1x16384_0_2 (extf (F := Ideal) .f32 s bitsLt_bf16_f32)))) bitsLt_bf16_f32) shapeCasts_S32x128x16384_S4096x16384) shapeCasts_S4096x16384_S2x2048x16384

/-- The group of row `r` of half `h`. -/
theorem group_lt (h : Fin 2) (r : Fin 2048) : h.val * 16 + r.val / 128 < 32 := by omega

/-- The reference at half `h`, row `r`, column `l`. -/
theorem composed_at (w : Vec Ideal S2048x16384 .i8) (s z : Vec Ideal S32x16384 .bf16) (h : Fin 2) (r : Fin 2048) (l : Fin 16384) :
    composed w s z (ix3 h r l)
      = deq h (w (ix2 r l)) (z (ix2 ⟨h.val * 16 + r.val / 128, group_lt h r⟩ l)) (s (ix2 ⟨h.val * 16 + r.val / 128, group_lt h r⟩ l)) := by
  pointwise [composed]
  unfold deq
  refine congrArg (fun a : EReal => (a - _) * _) ?_
  match h with
  | 0 =>
    show (((BitVec.toInt _ : ℤ) : ℝ) : EReal) = _
    have e : lit0 (S2.rowMajor (ix1 0)) = 0#32 := by decide +kernel
    rw [e, reference_lo]; norm_cast
  | 1 =>
    show (((BitVec.toInt _ : ℤ) : ℝ) : EReal) = _
    have e : lit0 (S2.rowMajor (ix1 1)) = 4#32 := by decide +kernel
    rw [e, reference_hi]; norm_cast

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init
public import Idealize.ShloMosaic.Lib.Bf16Pair
public import Idealize.ShloMosaic.Lib.Quiescent
public import Idealize.ShloMosaic.Lib.Pipeline.Value

@[expose] public section

noncomputable section

namespace Cert.Proof

open Idealize.ShloMosaic Idealize.ShloMosaic.TcCoe Idealize.SL.Sem

/-- The reference runs, leaves its arguments unchanged and every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The array the kernel leaves is the array the reference leaves: both hold the dequantised element at every place. -/
theorem equation (w : Vec Ideal Cert.KernelIdeal.S2048x16384 .i8) (s z : Vec Ideal Cert.KernelIdeal.S32x16384 .bf16) :
    Cert.ReferenceIdeal.Value.composed w s z = Cert.KernelIdeal.Array.whole w s z := by
  funext y
  obtain ⟨h, r, l, rfl⟩ : ∃ (h : Fin 2) (r : Fin 2048) (l : Fin 16384), y = ix3 h r l := ⟨y 0, y 1, y 2, eq_ix3 y⟩
  exact Cert.ReferenceIdeal.Value.composed_at w s z h r l

/-- The kernel and the reference end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Array.whole (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Array.final m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact equation _ _ _

/-- The certificate's claim, whole. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    frame_reference,
    IdealRules.bf16_pair.statement _ _,
    algebraic⟩

end Cert.Proof

end
